-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits_and_labels_in_range [hPre_finite_logits_and_labels_in_range : Cert.Pre_finite_logits_and_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits_and_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits_and_labels_in_range [hPre_finite_logits_and_labels_in_range : Cert.Pre_finite_logits_and_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits_and_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits_and_labels_in_range [hKernelIdeal : Cert.KernelIdeal.Facts] [hPre_finite_logits_and_labels_in_range : Cert.Pre_finite_logits_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits_and_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits_and_labels_in_range [hReferenceIdeal : Cert.ReferenceIdeal.Facts] [hPre_finite_logits_and_labels_in_range : Cert.Pre_finite_logits_and_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits_and_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_logits_and_labels_in_range [hKernelIdeal : Cert.KernelIdeal.Facts] [hReferenceIdeal : Cert.ReferenceIdeal.Facts] [hPre_finite_logits_and_labels_in_range : Cert.Pre_finite_logits_and_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits_and_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_logits_and_labels_in_range : Cert.Pre_finite_logits_and_labels_in_range.Facts),
    quiescent_Kernel (hKernel := hKernel)
    ∧ quiescent_KernelIdeal (hKernelIdeal := hKernelIdeal)
    ∧ quiescent_KernelIdeal_pre_finite_logits_and_labels_in_range (hKernelIdeal := hKernelIdeal) (hPre_finite_logits_and_labels_in_range := hPre_finite_logits_and_labels_in_range)
    ∧ quiescent_ReferenceIdeal (hReferenceIdeal := hReferenceIdeal)
    ∧ quiescent_ReferenceIdeal_pre_finite_logits_and_labels_in_range (hReferenceIdeal := hReferenceIdeal) (hPre_finite_logits_and_labels_in_range := hPre_finite_logits_and_labels_in_range)
    ∧ preserves_Kernel_KernelIdeal
    ∧ algebraic_KernelIdeal_ReferenceIdeal_pre_finite_logits_and_labels_in_range (hKernelIdeal := hKernelIdeal) (hReferenceIdeal := hReferenceIdeal) (hPre_finite_logits_and_labels_in_range := hPre_finite_logits_and_labels_in_range)
-- ==== Pre_finite_logits_and_labels_in_range.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S8x19x512x512 : S_.BroadcastsInDim S8x19x512x512 (![] : Fin 0 → Fin S8x19x512x512.rank)
  reducesTo_S8x19x512x512_S_d0_1_2_3 : S8x19x512x512.ReducesTo [0, 1, 2, 3] S_

variable [Facts]

def fn {F : FTy → Type} [FloatOps F] (main_arg0 : FVec F S8x19x512x512 .f32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 32 := constantI S_ 32 19#32
  let main_v2 : IVec S8x512x512 32 := broadcastInDim S8x512x512 ![] bcast_S_S8x512x512 main_c_0
  let main_v3 : IVec S8x512x512 1 := cmpi .slt main_arg1 main_v2
  let main_v4 : IVec S8x512x512 1 := andi main_v1 main_v3
  let main_c_1 : IVec S_ 1 := constantI S_ 1 1#1
  let main_v5 : IVec S_ 1 := (fun x v => Host.reduce IntOp.andi x v reducesTo_S8x512x512_S_d0_1_2 h_S_) main_v4 main_c_1
  let main_v6 : FVec F S8x19x512x512 .f32 := Host.absf main_arg0
  let main_cst : FVec F S_ .f32 := constant S_ .f32 0x7F800000#32
  let main_v7 : FVec F S8x19x512x512 .f32 := broadcastInDim S8x19x512x512 ![] bcast_S_S8x19x512x512 main_cst
  let main_v8 : IVec S8x19x512x512 1 := cmpf .olt main_v6 main_v7
  let main_c_2 : IVec S_ 1 := constantI S_ 1 1#1
  let main_v9 : IVec S_ 1 := (fun x v => Host.reduce IntOp.andi x v reducesTo_S8x19x512x512_S_d0_1_2_3 h_S_) main_v8 main_c_2
  let main_v10 : IVec S_ 1 := andi main_v5 main_v9
  main_v10
-- ==== Kernel.lean ====
abbrev S8x19x512x512 : Shape := ⟨4, ![8, 19, 512, 512]⟩
abbrev S8x512x512 : Shape := ⟨3, ![8, 512, 512]⟩
abbrev S8x19x262144 : Shape := ⟨3, ![8, 19, 262144]⟩
abbrev S8x1x262144 : Shape := ⟨3, ![8, 1, 262144]⟩
abbrev S8x1x1 : Shape := ⟨3, ![8, 1, 1]⟩
abbrev S1x19x131072 : Shape := ⟨3, ![1, 19, 131072]⟩
abbrev S1x1x131072 : Shape := ⟨3, ![1, 1, 131072]⟩
abbrev S1x1x1 : Shape := ⟨3, ![1, 1, 1]⟩
abbrev S1x19 : Shape := ⟨2, ![1, 19]⟩
abbrev S1x19x8192 : Shape := ⟨3, ![1, 19, 8192]⟩
abbrev S19x8192 : Shape := ⟨2, ![19, 8192]⟩
abbrev S1x1x8192 : Shape := ⟨3, ![1, 1, 8192]⟩
abbrev S1x8192 : Shape := ⟨2, ![1, 8192]⟩
abbrev S1 : Shape := ⟨1, ![1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x262144, .f32⟩
  | .hbm, ⟨3, _⟩ => ⟨S8x1x262144, .i32⟩
  | .hbm, ⟨4, _⟩ => ⟨S8x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x19x131072, .f32⟩
  | .local _ .vmem, ⟨1, _⟩ => ⟨S1x19x131072, .f32⟩
  | .local _ .vmem, ⟨2, _⟩ => ⟨S1x1x131072, .i32⟩
  | .local _ .vmem, ⟨3, _⟩ => ⟨S1x1x131072, .i32⟩
  | .local _ .vmem, ⟨4, _⟩ => ⟨S1x1x1, .f32⟩
  | .local _ .vmem, ⟨5, _⟩ => ⟨S1x1x1, .f32⟩
  | _, _ => ⟨S8x19x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 3 → Nat :=
  let c0 : Index := 0#32
  let c0_6 : Index := 0#32
  let c0_i32 : BitVec 32 := 0#32
  let c1_i32 : BitVec 32 := 1#32
  let arg5 : BitVec 32 := Scf.iv c0_i32 c1_i32 k0_t1
  let c8192_i32 : BitVec 32 := 8192#32
  let v10 : BitVec 32 := Scalar.muli arg5 c8192_i32
  let v11 : Index := Scalar.indexCast v10
  ![0, 0, v11.toNat]
def k0_off2 (k0_t1 : Fin k0_t1_loop.trips) : Fin 3 → Nat :=
  let c0_7 : Index := 0#32
  let c0_8 : Index := 0#32
  let c0_i32 : BitVec 32 := 0#32
  let c1_i32 : BitVec 32 := 1#32
  let arg5 : BitVec 32 := Scf.iv c0_i32 c1_i32 k0_t1
  let c8192_i32 : BitVec 32 := 8192#32
  let v10 : BitVec 32 := Scalar.muli arg5 c8192_i32
  let v14 : Index := Scalar.indexCast v10
  ![0, 0, v14.toNat]
def k0_cond1 (i : grid0.Coords) : BitVec 1 :=
  let arg1 : BitVec 32 := BitVec.ofNat 32 (i 1).val
  let c0_i32_2 : BitVec 32 := 0#32
  let v4 : BitVec 1 := Scalar.cmpi .eq arg1 c0_i32_2
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S8x19x512x512 : Shape := ⟨4, ![8, 19, 512, 512]⟩
abbrev S8x512x512 : Shape := ⟨3, ![8, 512, 512]⟩
abbrev S8x19x262144 : Shape := ⟨3, ![8, 19, 262144]⟩
abbrev S8x262144 : Shape := ⟨2, ![8, 262144]⟩
abbrev S_ : Shape := ⟨0, ![]⟩
abbrev S8x1x262144 : Shape := ⟨3, ![8, 1, 262144]⟩
abbrev S8x1x262144x1 : Shape := ⟨4, ![8, 1, 262144, 1]⟩
abbrev S1 : Shape := ⟨1, ![1]⟩
abbrev S1x1x1x1 : Shape := ⟨4, ![1, 1, 1, 1]⟩
abbrev S8 : Shape := ⟨1, ![8]⟩

abbrev nBuf : Space → Nat
  | .hbm => 53
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x262144, .f32⟩
  | .hbm, ⟨3, _⟩ => ⟨S8x262144, .i32⟩
  | .hbm, ⟨4, _⟩ => ⟨S_, .f32⟩
  | .hbm, ⟨5, _⟩ => ⟨S8x262144, .f32⟩
  | .hbm, ⟨6, _⟩ => ⟨S_, .f32⟩
  | .hbm, ⟨7, _⟩ => ⟨S8x262144, .f32⟩
  | .hbm, ⟨8, _⟩ => ⟨S8x262144, .f32⟩
  | .hbm, ⟨9, _⟩ => ⟨S8x1x262144, .f32⟩
  | .hbm, ⟨10, _⟩ => ⟨S8x19x262144, .f32⟩
  | .hbm, ⟨11, _⟩ => ⟨S8x19x262144, .f32⟩
  | .hbm, ⟨12, _⟩ => ⟨S8x19x262144, .f32⟩
  | .hbm, ⟨13, _⟩ => ⟨S_, .f32⟩
  | .hbm, ⟨14, _⟩ => ⟨S8x262144, .f32⟩
  | .hbm, ⟨15, _⟩ => ⟨S8x1x262144, .f32⟩
  | .hbm, ⟨16, _⟩ => ⟨S8x1x262144, .f32⟩
  | .hbm, ⟨17, _⟩ => ⟨S8x19x262144, .f32⟩
  | .hbm, ⟨18, _⟩ => ⟨S8x19x262144, .f32⟩
  | .hbm, ⟨19, _⟩ => ⟨S8x1x262144, .i32⟩
  | .hbm, ⟨20, _⟩ => ⟨S_, .i32⟩
  | .hbm, ⟨21, _⟩ => ⟨S8x1x262144, .i32⟩
  | .hbm, ⟨22, _⟩ => ⟨S8x1x262144, .i1⟩
  | .hbm, ⟨23, _⟩ => ⟨S_, .i32⟩
  | .hbm, ⟨24, _⟩ => ⟨S8x1x262144, .i32⟩
  | .hbm, ⟨25, _⟩ => ⟨S8x1x262144, .i32⟩
  | .hbm, ⟨26, _⟩ => ⟨S8x1x262144, .i32⟩
  | .hbm, ⟨27, _⟩ => ⟨S8x1x262144x1, .i32⟩
  | .hbm, ⟨28, _⟩ => ⟨S1, .i32⟩
  | .hbm, ⟨29, _⟩ => ⟨S_, .i32⟩
  | .hbm, ⟨30, _⟩ => ⟨S8x1x262144x1, .i32⟩
  | .hbm, ⟨31, _⟩ => ⟨S8x1x262144x1, .i1⟩
  | .hbm, ⟨32, _⟩ => ⟨S1x1x1x1, .i32⟩
  | .hbm, ⟨33, _⟩ => ⟨S8x1x262144x1, .i32⟩
  | .hbm, ⟨34, _⟩ => ⟨S8x1x262144x1, .i1⟩
  | .hbm, ⟨35, _⟩ => ⟨S8x1x262144x1, .i1⟩
  | .hbm, ⟨36, _⟩ => ⟨S_, .i1⟩
  | .hbm, ⟨37, _⟩ => ⟨S8x1x262144, .i1⟩
  | .hbm, ⟨38, _⟩ => ⟨S8x1x262144, .f32⟩
  | .hbm, ⟨39, _⟩ => ⟨S_, .f32⟩
  | .hbm, ⟨40, _⟩ => ⟨S8x1x262144, .f32⟩
  | .hbm, ⟨41, _⟩ => ⟨S8x1x262144, .f32⟩
  | .hbm, ⟨42, _⟩ => ⟨S8x262144, .f32⟩
  | .hbm, ⟨43, _⟩ => ⟨S8x262144, .f32⟩
  | .hbm, ⟨44, _⟩ => ⟨S_, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v2 : Ref sig .tc := ⟨.hbm, 18, rfl⟩
abbrev main_v3 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_cst : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_cst_2 : Ref sig .tc := ⟨.hbm, 51, rfl⟩
abbrev main_v11 : Ref sig .tc := ⟨.hbm, 52, rfl⟩

abbrev nD : Nat := 1
abbrev τ : Topo := Topo.v7x

variable {F : FTy → Type} [FloatOps F]
-- ==== Proof.Loss.lean ====
/- The cross entropy of one pixel, as the kernel writes it and as the reference writes it, over the extended reals.
   On finite logits and a label that names a class both are the real number `log (Σ exp r) - r y`. -/
module

public import Idealize.ShloMosaic.PureOps.Ideal.Laws
public import Idealize.ShloMosaic.Lib.ValueIdxCore

@[expose] public section

noncomputable section

namespace Cert.Proof.Loss

open Idealize.ShloMosaic
open scoped BigOperators

/-- The kernel's loss of a pixel with logits `x` and label `y`: the logarithm of the sum of the exponentials, less the sum
    over the classes of the logit where the class is the label and zero elsewhere. -/
def kernelLoss (x : Fin 19 → EReal) (y : BitVec 32) : EReal :=
  Ideal.log (∑ k, Ideal.exp (x k)) - ∑ k : Fin 19, if BitVec.ofNat 32 k.val = y then x k else 0

/-- The reference's log-probability of class `k`, with the logits shifted by `M` first. -/
def logProb (M : EReal) (x : Fin 19 → EReal) (k : Fin 19) : EReal :=
  (x k - M) - Ideal.log (∑ j, Ideal.exp (x j - M))

/-- The loss of a pixel with real logits `r` and class `k`. -/
def realLoss (r : Fin 19 → ℝ) (k : Fin 19) : ℝ := Real.log (∑ j, Real.exp (r j)) - r k

/-- A finite sum of real numbers is the same real number summed as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real number. -/
theorem exp_coe (r : ℝ) : Ideal.exp (r : EReal) = (Real.exp r : EReal) := rfl

/-- The logarithm of a positive real number. -/
theorem log_coe {r : ℝ} (h : 0 < r) : Ideal.log (r : EReal) = (Real.log r : EReal) := by
  show (if r ≤ 0 then (⊥ : EReal) else (Real.log r : EReal)) = _
  rw [if_neg (not_le.2 h)]

/-- A sum of exponentials of real numbers, one for each class, is positive. -/
theorem sum_exp_pos (r : Fin 19 → ℝ) : 0 < ∑ k, Real.exp (r k) :=
  Finset.sum_pos (fun k _ => Real.exp_pos _) ⟨0, Finset.mem_univ _⟩

/-- The logarithm of the sum of the exponentials of real logits. -/
theorem log_sum_exp (r : Fin 19 → ℝ) :
    Ideal.log (∑ k, Ideal.exp (r k : EReal)) = (Real.log (∑ k, Real.exp (r k)) : EReal) := by
  simp only [exp_coe]
  rw [← coe_sum, log_coe (sum_exp_pos r)]

/-- Two classes with the same 32-bit word are the same class. -/
theorem ofNat_inj (j k : Fin 19) : BitVec.ofNat 32 j.val = BitVec.ofNat 32 k.val ↔ j = k := by
  constructor
  · intro h
    have h' := congrArg BitVec.toNat h
    simp only [BitVec.toNat_ofNat] at h'
    have := j.isLt; have := k.isLt
    exact Fin.ext (by omega)
  · rintro rfl; rfl

/-- On real logits and a label naming class `k`, the kernel's loss is the real loss. -/
theorem kernelLoss_real (r : Fin 19 → ℝ) (k : Fin 19) :
    kernelLoss (fun j => (r j : EReal)) (BitVec.ofNat 32 k.val) = (realLoss r k : EReal) := by
  unfold kernelLoss realLoss
  rw [log_sum_exp]
  simp only [ofNat_inj]
  rw [Finset.sum_ite_eq' Finset.univ k, if_pos (Finset.mem_univ k), ← EReal.coe_sub]

/-- Shifting every logit by the same real number moves the logarithm of the sum of the exponentials by that number. -/
theorem log_sum_exp_sub (r : Fin 19 → ℝ) (μ : ℝ) :
    Real.log (∑ k, Real.exp (r k - μ)) = Real.log (∑ k, Real.exp (r k)) - μ := by
  simp only [Real.exp_sub]
  rw [← Finset.sum_div, Real.log_div (sum_exp_pos r).ne' (Real.exp_pos μ).ne', Real.log_exp]

/-- On real logits and a real shift, minus the reference's log-probability of class `k` is the real loss. -/
theorem neg_logProb_real (r : Fin 19 → ℝ) (μ : ℝ) (k : Fin 19) :
    -logProb (μ : EReal) (fun j => (r j : EReal)) k = (realLoss r k : EReal) := by
  unfold logProb realLoss
  simp only [← EReal.coe_sub]
  rw [log_sum_exp, log_sum_exp_sub, ← EReal.coe_sub, ← EReal.coe_neg]
  congr 1
  ring

/-- An extended real whose absolute value is below infinity is a real number. -/
theorem exists_real_of_abs_lt {x : EReal} (h : max x (-x) < ⊤) : ∃ r : ℝ, x = (r : EReal) := by
  induction x with
  | bot => simp at h
  | top => simp at h
  | coe r => exact ⟨r, rfl⟩

/-- The greatest of a nonempty list of real numbers, folded from minus infinity, is a real number. -/
theorem foldl_max_real {ι : Type*} (f : ι → EReal) (hf : ∀ i, ∃ r : ℝ, f i = (r : EReal)) :
    ∀ (l : List ι) (a : EReal), (l ≠ [] ∧ a = ⊥ ∨ ∃ r : ℝ, a = (r : EReal)) →
      ∃ r : ℝ, l.foldl (fun b i => max b (f i)) a = (r : EReal)
  | [], a, h => by
    rcases h with ⟨h, _⟩ | h
    · exact absurd rfl h
    · exact h
  | i :: l, a, h => by
    obtain ⟨s, hs⟩ := hf i
    refine foldl_max_real f hf l (max a (f i)) (.inr ?_)
    rcases h with ⟨_, rfl⟩ | ⟨r, rfl⟩
    · exact ⟨s, by rw [hs]; exact max_eq_right bot_le⟩
    · exact ⟨max r s, by rw [hs]; exact (EReal.coe_strictMono.monotone.map_max (a := r) (b := s)).symm⟩

end Cert.Proof.Loss

end
-- ==== Proof.Precondition.lean ====
/- What the precondition says of the two arguments: every logit is a real number and every label is one of the 19 classes. -/
module

public import proofs.«01_k».proof.Pre_finite_logits_and_labels_in_range
public import proofs.«01_k».proof.Proof.Loss
public import Idealize.ShloMosaic.Lib.ReduceAll
public import Idealize.ShloMosaic.Lib.Affine
public import Idealize.ShloMosaic.Lib.Pipeline.Value
public import Idealize.ShloMosaic.Lib.IdealHost

@[expose] public section

noncomputable section

namespace Cert.Proof.Precondition

open Idealize.ShloMosaic Cert.Pre_finite_logits_and_labels_in_range

/-- The shape relations the precondition states hold. -/
instance facts : Facts where
  bcast_S_S8x512x512 := by decide
  reducesTo_S8x512x512_S_d0_1_2 := by decide
  h_S_ := by decide
  bcast_S_S8x19x512x512 := by decide
  reducesTo_S8x19x512x512_S_d0_1_2_3 := by decide

/-- A scalar has one index. -/
instance : Subsingleton S_.Idx := ⟨fun a b => funext fun i => i.elim0⟩

/-- A word that is at least 0 and less than 19, both read signed, is the number of a class. -/
theorem class_of_range (v : BitVec 32) (h0 : IntOp.cmpi .sge v 0#32 = 1#1) (h1 : IntOp.cmpi .slt v 19#32 = 1#1) :
    ∃ k : Fin 19, v = BitVec.ofNat 32 k.val := by
  have hb : ∀ b : Bool, BitVec.ofBool b = 1#1 → b = true := by decide
  have h0' : (0#32).sle v = true := hb _ h0
  have h1' : v.slt 19#32 = true := hb _ h1
  simp only [BitVec.sle, BitVec.slt, decide_eq_true_eq] at h0' h1'
  have e0 : (0#32).toInt = 0 := by decide
  have e19 : (19#32).toInt = 19 := by decide
  rw [e0] at h0'
  rw [e19] at h1'
  have hv := BitVec.toInt_eq_toNat_cond v
  have hlt := v.isLt
  have hn : v.toNat < 19 := by
    split at hv <;> omega
  refine ⟨⟨v.toNat, hn⟩, ?_⟩
  apply BitVec.eq_of_toNat_eq
  rw [BitVec.toNat_ofNat, Nat.mod_eq_of_lt hlt]

/-- The pattern of positive infinity is the greatest extended real. -/
theorem inf_bits : Ideal.ofBits .f32 0x7F800000#32 = ⊤ := by
  simp [Ideal.ofBits, Ideal.ieee]

/-- Under the precondition every label is the number of a class. -/
theorem labels [Facts] (x : FVec Ideal S8x19x512x512 .f32) (y : IVec S8x512x512 32) (h : fn (F := Ideal) x y = fun _ => 1#1)
    (i : S8x512x512.Idx) : ∃ k : Fin 19, y i = BitVec.ofNat 32 k.val := by
  have h' := (IntOp.andi_eq_one.1 (congrFun h (Shape.Idx.first Facts.h_S_))).1
  have e := Host.reduce_andi_all _ _ _ _ _ h' i
  obtain ⟨e0, e1⟩ := IntOp.andi_eq_one.1 e
  exact class_of_range _ e0 e1

/-- Under the precondition every logit is a real number. -/
theorem logits [Facts] (x : FVec Ideal S8x19x512x512 .f32) (y : IVec S8x512x512 32) (h : fn (F := Ideal) x y = fun _ => 1#1)
    (i : S8x19x512x512.Idx) : ∃ r : ℝ, x i = (r : EReal) := by
  have h' := (IntOp.andi_eq_one.1 (congrFun h (Shape.Idx.first Facts.h_S_))).2
  have e := Host.reduce_andi_all _ _ _ _ _ h' i
  have e' : Ideal.cmp .olt (max (x i) (-(x i))) (Ideal.ofBits .f32 0x7F800000#32) = 1#1 := e
  rw [inf_bits] at e'
  refine Loss.exists_real_of_abs_lt ?_
  by_contra hn
  simp [Ideal.cmp, hn] at e'

end Cert.Proof.Precondition

end
-- ==== Proof.Trip.lean ====
/- What one trip of the kernel's loop adds to the value it carries: the losses of the trip's 8192 pixels. -/
module

public import proofs.«01_k».proof.Proof.Loss
public import proofs.«01_k».proof.Proof.Gen.KernelIdeal.Skeleton
public import Idealize.ShloMosaic.Lib.MatmulPlain
public import Idealize.ShloMosaic.Lib.Pipeline.Value
public import Idealize.ShloMosaic.Lib.Pointwise.Index
public import Idealize.ShloMosaic.Lib.IdealHost

@[expose] public section

noncomputable section

namespace Cert.Proof.Trip

open Idealize.ShloMosaic hiding ix0 ix1 ix2 ix3 ix4 sum_idx2
open Idealize.ShloMosaic.ValueIdx
open Cert.KernelIdeal Cert.KernelIdeal.Gen
open scoped BigOperators

/-- A row of ones times a matrix with 19 rows is, at each column, the sum of the column. -/
theorem ones_matmul (b : FVec Ideal S19x8192 .f32) (l : Fin 8192) :
    matmul dot_S1x19_S19x8192_S1x8192_1_0_0_1_n_n none (broadcast S1x19 (Scalar.ofBits .f32 0x3F800000#32 : Ideal .f32)) b
      (constant S1x8192 .f32 0x00000000#32 : FVec Ideal S1x8192 .f32) (ix2 0 l) = ∑ k : Fin 19, b (ix2 k l) := by
  refine (Ideal.matmul_plain_apply (M := 1) (K := 19) (N := 8192) none _ b _ 0 l).trans ?_
  rw [constant_apply, Ideal.ofBits_zero_f32, zero_add]
  refine Finset.sum_congr rfl fun k _ => ?_
  rw [broadcast_apply]
  show (Ideal.ofBits .f32 0x3F800000#32 : EReal) * b (ix2 k l) = _
  rw [Ideal.ofBits_one_f32, one_mul]

/-- The matrix of a trip's logits reads, at class `k` and lane `l`, the block's entry there. -/
theorem logits_apply (v12 : Vec Ideal S1x19x8192 .f32) (k : Fin 19) (l : Fin 8192) :
    shapeCast S19x8192 v12 shapeCasts_S1x19x8192_S19x8192 (ix2 k l) = v12 (ix3 0 k l) :=
  shapeCast_apply _ _ _ _ (by
    rw [Shape.rowMajor_val_three, Shape.rowMajor_val_two]
    show (0 * 19 + k.val) * 8192 + l.val = k.val * 8192 + l.val
    omega)

/-- The row of a trip's labels, repeated for every class, reads at lane `l` the block's label there. -/
theorem labels_apply (v15 : Vec Ideal S1x1x8192 .i32) (k : Fin 19) (l : Fin 8192) :
    broadcastTo S19x8192 (shapeCast S1x8192 v15 shapeCasts_S1x1x8192_S1x8192) broadcasts_S1x8192_S19x8192 (ix2 k l)
      = v15 (ix3 0 0 l) := by
  rw [broadcastTo_apply _ _ _ (ix2 0 l) (fun a => by match a with | ⟨0, _⟩ => rfl | ⟨1, _⟩ => rfl)]
  exact shapeCast_apply _ _ _ _ (by
    rw [Shape.rowMajor_val_three, Shape.rowMajor_val_two]
    show (0 * 1 + 0) * 8192 + l.val = 0 * 8192 + l.val
    omega)

/-- The matrix the second product sums: the logit where the class is the label, zero elsewhere. -/
theorem picked_apply (v12 : Vec Ideal S1x19x8192 .f32) (v15 : Vec Ideal S1x1x8192 .i32) (k : Fin 19) (l : Fin 8192) :
    select (cmpi .eq (iota .tc S19x8192 32 [0] iota_S19x8192_d0_w32)
        (broadcastTo S19x8192 (shapeCast S1x8192 v15 shapeCasts_S1x1x8192_S1x8192) broadcasts_S1x8192_S19x8192))
      (shapeCast S19x8192 v12 shapeCasts_S1x19x8192_S19x8192)
      (broadcast S19x8192 (Scalar.ofBits .f32 0x00000000#32 : Ideal .f32)) (ix2 k l)
      = if BitVec.ofNat 32 k.val = v15 (ix3 0 0 l) then v12 (ix3 0 k l) else 0 := by
  rw [select_apply, logits_apply, broadcast_apply]
  show Scalar.select (IntOp.cmpi .eq (iota .tc S19x8192 32 [0] iota_S19x8192_d0_w32 (ix2 k l)) (broadcastTo S19x8192
    (shapeCast S1x8192 v15 shapeCasts_S1x1x8192_S1x8192) broadcasts_S1x8192_S19x8192 (ix2 k l))) _ (Ideal.ofBits .f32 0x00000000#32) = _
  rw [labels_apply, iota_single_apply, Ideal.ofBits_zero_f32]
  show Scalar.select (BitVec.ofBool (BitVec.ofNat 32 k.val == v15 (ix3 0 0 l))) _ _ = _
  by_cases h : BitVec.ofNat 32 k.val = v15 (ix3 0 0 l)
  · rw [if_pos h, beq_iff_eq.2 h]; rfl
  · rw [if_neg h, beq_eq_false_iff_ne.2 h]; rfl

/-- One trip takes the carried value `acc` to `acc` plus the sum, over the trip's 8192 pixels, of the kernel's loss. -/
theorem pay1_eq (acc : EReal) (v12 : Vec Ideal S1x19x8192 .f32) (v15 : Vec Ideal S1x1x8192 .i32) :
    k0_pay1 (F := Ideal) acc v12 v15
      = acc + ∑ l : Fin 8192, Loss.kernelLoss (fun k => v12 (ix3 0 k l)) (v15 (ix3 0 0 l)) := by
  unfold k0_pay1
  dsimp only
  show acc + extractAt _ _ _ = _
  refine congrArg (fun z : EReal => acc + z) ?_
  unfold extractAt
  rw [shapeCast_apply _ _ _ (ix1 0) (by
    rw [Shape.rowMajor_val_three, Shape.rowMajor_val_one]
    rfl)]
  refine (Ideal.multiReduction_add_total _ _ reduces_S1x1x8192_S1 (fun b => by match b with | ⟨0, _⟩ => rfl) _ rfl _).trans ?_
  refine (Idealize.ShloMosaic.sum_idx3 _).trans ?_
  rw [Fin.sum_univ_one, Fin.sum_univ_one]
  refine Finset.sum_congr rfl fun l _ => ?_
  rw [shapeCast_apply _ _ _ (ix2 0 l) (by
    rw [Shape.rowMajor_val_three, Shape.rowMajor_val_two]
    show 0 * 8192 + l.val = (0 * 1 + 0) * 8192 + l.val
    omega)]
  rw [subf_apply]
  unfold Loss.kernelLoss
  refine congrArg₂ (fun a b : EReal => a - b) ?_ ?_
  · refine congrArg Ideal.log ((ones_matmul _ l).trans (Finset.sum_congr rfl fun k _ => ?_))
    exact congrArg Ideal.exp (logits_apply v12 k l)
  · exact (ones_matmul _ l).trans (Finset.sum_congr rfl fun k _ => picked_apply v12 v15 k l)

end Cert.Proof.Trip

end
-- ==== Proof.Block.lean ====
/- What one grid point of the kernel leaves in its output block: the sum of the losses of its 131072 pixels, stored at a
   batch's first point and added to what the block held at its second. -/
module

public import proofs.«01_k».proof.Proof.Trip
public import proofs.«01_k».proof.Proof.Gen.KernelIdeal.Frame
public import Idealize.ShloMosaic.Lib.Pipeline.ValueKit.Tiles

@[expose] public section

noncomputable section

namespace Cert.Proof.Block

open Idealize.ShloMosaic hiding ix0 ix1 ix2 ix3 ix4 sum_idx2
open Idealize.ShloMosaic.ValueIdx Idealize.ShloMosaic.TcCoe
open Cert.KernelIdeal Cert.KernelIdeal.Gen
open scoped BigOperators

/-- The lane of the 131072-pixel block that trip `n` of the loop reads at its own lane `l`. -/
def lane (n : Fin 16) (l : Fin 8192) : Fin 131072 := ⟨8192 * n.val + l.val, by omega⟩

/-- The sum of the losses of the 8192 pixels of trip `n`, from the block `x0` of logits and the block `x1` of labels. -/
def tripSum (x0 : Vec Ideal S1x19x131072 .f32) (x1 : Vec Ideal S1x1x131072 .i32) (n : Fin 16) : EReal :=
  ∑ l : Fin 8192, Loss.kernelLoss (fun k => x0 (ix3 0 k (lane n l))) (x1 (ix3 0 0 (lane n l)))

theorem hz : (![0, 0, 0] : Fin 3 → Nat) = fun _ => 0 := funext fun a => by fin_cases a <;> rfl

variable (c : Dev nD) (i : grid0.Coords) (a2 : Memref sig .tc .vmem S1x19x131072 .f32) (h2 : a2.IsWhole)
  (a3 : Memref sig .tc .vmem S1x1x131072 .i32) (h3 : a3.IsWhole) (a4 : Memref sig .tc .vmem S1x1x1 .f32) (h4 : a4.IsWhole)
  (x0 : Vec Ideal S1x19x131072 .f32) (x1 : Vec Ideal S1x1x131072 .i32)

/-- Trip `k` adds its pixels' losses to the carried value. -/
theorem tripR_eq (𝒱 : Variants) (bd : Option 𝒱.V) (k : Fin k0_t1_loop.trips) (hk : k.val < 16) (acc : EReal) :
    tripR_k0_t1 (F := Ideal) 𝒱 c bd i a2 h2 a3 h3 a4 h4 (h2.unread x0) (h3.unread x1) k acc
      = acc + tripSum x0 x1 ⟨k.val, hk⟩ := by
  unfold tripR_k0_t1 trip_k0_t1
  dsimp only
  simp only [View.readAt_eq_ld, h2.read_unread, h3.read_unread]
  refine (Trip.pay1_eq acc _ _).trans ?_
  unfold tripSum
  refine congrArg (fun z : EReal => acc + z) (Finset.sum_congr rfl fun l _ => ?_)
  have e1 : ∀ q : Fin 19, View.ld x0 (Rect.unit (k0_off1 k) ![1, 19, 8192] (k0_off1_inb k)) (ix3 0 q l)
      = x0 (ix3 0 q (lane ⟨k.val, hk⟩ l)) := fun q => by
    rw [View.ld_unit_apply_of x0 _ _ _ _ (ix3 0 q (lane ⟨k.val, hk⟩ l))]
    intro a
    refine Eq.trans ?_ (congrArg (fun o : Fin 3 → ℕ => o a + (ix3 (n0 := 1) 0 q l a).val) (k0_off1_eq k)).symm
    match a with
    | ⟨0, _⟩ => rfl
    | ⟨1, _⟩ => exact (Nat.zero_add q.val).symm
    | ⟨2, _⟩ => rfl
  have e2 : View.ld x1 (Rect.unit (k0_off2 k) ![1, 1, 8192] (k0_off2_inb k)) (ix3 0 0 l)
      = x1 (ix3 0 0 (lane ⟨k.val, hk⟩ l)) := by
    rw [View.ld_unit_apply_of x1 _ _ _ _ (ix3 0 0 (lane ⟨k.val, hk⟩ l))]
    intro a
    refine Eq.trans ?_ (congrArg (fun o : Fin 3 → ℕ => o a + (ix3 (n0 := 1) (n1 := 1) 0 0 l a).val) (k0_off2_eq k)).symm
    match a with
    | ⟨0, _⟩ => rfl
    | ⟨1, _⟩ => rfl
    | ⟨2, _⟩ => rfl
  exact congrArg₂ Loss.kernelLoss (funext e1) e2

/-- The sum of the losses of the 131072 pixels of one grid point, trip by trip. -/
def blockSum (x0 : Vec Ideal S1x19x131072 .f32) (x1 : Vec Ideal S1x1x131072 .i32) : EReal :=
  ∑ n : Fin 16, tripSum x0 x1 n

theorem trips_eq : k0_t1_loop.trips = 16 := by decide +kernel

/-- Before trip `n` the carried value is the sum of the trips before it, added to the initial value. -/
theorem st_eq (𝒱 : Variants) (bd : Option 𝒱.V) (init : EReal) : ∀ (n : ℕ) (hn : n ≤ 16),
    st_k0_t1 (F := Ideal) 𝒱 c bd i a2 h2 a3 h3 a4 h4 (h2.unread x0) (h3.unread x1) init n
      = init + ∑ q : Fin n, tripSum x0 x1 (q.castLE hn)
  | 0, _ => by rw [st_k0_t1_zero]; simp
  | n + 1, hn => by
    refine (st_k0_t1_succ (F := Ideal) 𝒱 c bd i a2 h2 a3 h3 a4 h4 (h2.unread x0) (h3.unread x1) init
      ⟨n, by rw [trips_eq]; omega⟩).trans ?_
    rw [tripR_eq c i a2 h2 a3 h3 a4 h4 x0 x1 𝒱 bd _ (by show n < 16; omega), st_eq 𝒱 bd init n (by omega),
      Fin.sum_univ_castSucc, add_assoc]
    rfl

/-- The loop, started at zero, yields the sum of the losses of the point's pixels. -/
theorem loop_eq (𝒱 : Variants) (bd : Option 𝒱.V) :
    st_k0_t1 (F := Ideal) 𝒱 c bd i a2 h2 a3 h3 a4 h4 (h2.unread x0) (h3.unread x1)
      (Scalar.ofBits .f32 0x00000000#32 : Ideal .f32) k0_t1_loop.trips = blockSum x0 x1 := by
  rw [trips_eq]
  refine (st_eq c i a2 h2 a3 h3 a4 h4 x0 x1 𝒱 bd _ 16 le_rfl).trans ?_
  show Ideal.ofBits .f32 0x00000000#32 + _ = _
  rw [Ideal.ofBits_zero_f32, zero_add]
  rfl

/-- At a batch's first point the block is left holding the sum of the point's losses. -/
theorem out_A (hc0 : cond0_0 i) (hc1 : ¬cond0_1 i) (j : S1x1x1.Idx) :
    out0_A_2 (F := Ideal) c i a2 h2 a3 h3 a4 h4 hc0 hc1 x0 x1 j = blockSum x0 x1 := by
  unfold out0_A_2
  rw [View.read_writes_eq_canon _ _ _ (cover0_A_2 c i a2 h2 a3 h3 a4 h4 hc0 hc1 x0 x1)]
  unfold kernelRun0_A
  dsimp only
  rw [View.canon_unit_zero hz]
  unfold k0_pay2
  rw [broadcast_apply]
  exact loop_eq c i a2 h2 a3 h3 a4 h4 x0 x1 _ _

/-- At a batch's second point the block is left holding what it held plus the sum of the point's losses. -/
theorem out_B (hc0 : ¬cond0_0 i) (hc1 : cond0_1 i) (xo : Vec Ideal S1x1x1 .f32) (j : S1x1x1.Idx) :
    out0_B_2 (F := Ideal) c i a2 h2 a3 h3 a4 h4 hc0 hc1 x0 x1 xo j = xo j + blockSum x0 x1 := by
  unfold out0_B_2
  rw [View.read_writes_eq_canon _ _ _ (cover0_B_2 c i a2 h2 a3 h3 a4 h4 hc0 hc1 x0 x1 xo)]
  unfold kernelRun0_B
  dsimp only
  rw [View.canon_unit_zero hz]
  unfold k0_pay3 k0_pay2
  dsimp only
  simp only [View.readAt_eq_ld, h4.read_unread, View.ld_unit_zero (S := S1x1x1) hz, shapeCast_self]
  rw [addf_apply, broadcast_apply]
  exact congrArg (fun z : EReal => xo j + z) (loop_eq c i a2 h2 a3 h3 a4 h4 x0 x1 _ _)

end Cert.Proof.Block

end
-- ==== Proof.Pixel.lean ====
/- The pixels of the two arguments, numbered 0 to 262143 inside a picture, and sums over them taken in pieces. -/
module

public import proofs.«01_k».proof.Proof.Loss

@[expose] public section

noncomputable section

namespace Cert.Proof.Pixel

open Idealize.ShloMosaic Idealize.ShloMosaic.ValueIdx
open scoped BigOperators

/-- The row of pixel `p`. -/
def row (p : Fin 262144) : Fin 512 := ⟨p.val / 512, by omega⟩

/-- The column of pixel `p`. -/
def col (p : Fin 262144) : Fin 512 := ⟨p.val % 512, by omega⟩

/-- The logit of class `k` at pixel `p` of picture `b`. -/
def logit (x : (⟨4, ![8, 19, 512, 512]⟩ : Shape).Idx → EReal) (b : Fin 8) (p : Fin 262144) (k : Fin 19) : EReal :=
  x (ix4 b k (row p) (col p))

/-- The label of pixel `p` of picture `b`. -/
def label (y : (⟨3, ![8, 512, 512]⟩ : Shape).Idx → BitVec 32) (b : Fin 8) (p : Fin 262144) : BitVec 32 :=
  y (ix3 b (row p) (col p))

/-- The sum of the kernel's losses over the pixels of picture `b`. -/
@[irreducible] def batchSum (x : (⟨4, ![8, 19, 512, 512]⟩ : Shape).Idx → EReal) (y : (⟨3, ![8, 512, 512]⟩ : Shape).Idx → BitVec 32)
    (b : Fin 8) : EReal :=
  ∑ p : Fin 262144, Loss.kernelLoss (logit x b p) (label y b p)

/-- A sum over `n = a * b` places is the sum over `a` pieces of `b` places each. -/
theorem sum_pieces {a b n : ℕ} (h : a * b = n) (f : Fin n → EReal) :
    ∑ p, f p = ∑ i : Fin a, ∑ j : Fin b,
      f ⟨b * i.val + j.val, by
        have hi := i.isLt; have hj := j.isLt
        calc b * i.val + j.val < b * i.val + b := by omega
          _ = b * (i.val + 1) := by ring
          _ ≤ b * a := Nat.mul_le_mul_left b hi
          _ = n := by rw [Nat.mul_comm]; exact h⟩ := by
  subst h
  rw [← finProdFinEquiv.sum_comp, Fintype.sum_prod_type]
  refine Finset.sum_congr rfl fun i _ => Finset.sum_congr rfl fun j _ => congrArg f (Fin.ext ?_)
  exact Nat.add_comm _ _

end Cert.Proof.Pixel

end
-- ==== Proof.Array.lean ====
/- The kernel's result: the array of the pictures' sums, and the mean the last lines make of it. -/
module

public import proofs.«01_k».proof.Proof.Block
public import proofs.«01_k».proof.Proof.Pixel

@[expose] public section

noncomputable section

namespace Cert.Proof.Array

open Idealize.ShloMosaic hiding ix0 ix1 ix2 ix3 ix4 sum_idx2
open Idealize.ShloMosaic.ValueIdx Idealize.ShloMosaic.TcCoe Idealize.SL.Sem
open Cert.KernelIdeal Cert.KernelIdeal.Gen
open Idealize.ShloMosaic.Pipeline (Dat)
open Idealize.ShloMosaic.StableHlo
open scoped BigOperators

variable (m : (ℓ : Loc nD τ sig) → Buf (Elt Ideal) ℓ) (ρ : Dev nD → PrngReg) (c : Dev nD)

/-- The logits the kernel is launched with. -/
abbrev X : S8x19x512x512.Idx → EReal := m ((c : Thread nD τ).loc main_arg0)

/-- The labels the kernel is launched with. -/
abbrev Y : S8x512x512.Idx → BitVec 32 := m ((c : Thread nD τ).loc main_arg1)

/-- The region finds the logits with rows and columns joined. -/
theorem V_logits : (V m c main_v0 : Vec Ideal S8x19x262144 .f32)
    = shapeCast S8x19x262144 (X m c) shapeCasts_S8x19x512x512_S8x19x262144 := by
  show after hostOps0 (fun b => m (c, b)) (Proc.devRef .tc main_v0) = _
  unfold hostOps0
  after_results
  rfl

/-- The region finds the labels with rows and columns joined. -/
theorem V_labels : (V m c main_v1 : Vec Ideal S8x1x262144 .i32)
    = shapeCast S8x1x262144 (Y m c) shapeCasts_S8x512x512_S8x1x262144 := by
  show after hostOps0 (fun b => m (c, b)) (Proc.devRef .tc main_v1) = _
  unfold hostOps0
  after_results
  rfl

/-- The joined logits at picture `b`, class `k` and pixel `p`. -/
theorem joined_logits (x : S8x19x512x512.Idx → EReal) (b : Fin 8) (k : Fin 19) (p : Fin 262144) :
    shapeCast S8x19x262144 x shapeCasts_S8x19x512x512_S8x19x262144 (ix3 b k p) = Pixel.logit x b p k :=
  shapeCast_apply _ _ _ _ (by
    rw [Shape.rowMajor_val_four, Shape.rowMajor_val_three]
    show ((b.val * 19 + k.val) * 512 + p.val / 512) * 512 + p.val % 512 = (b.val * 19 + k.val) * 262144 + p.val
    omega)

/-- The joined labels at picture `b` and pixel `p`. -/
theorem joined_labels (y : S8x512x512.Idx → BitVec 32) (b : Fin 8) (p : Fin 262144) :
    shapeCast S8x1x262144 y shapeCasts_S8x512x512_S8x1x262144 (ix3 b 0 p) = Pixel.label y b p :=
  shapeCast_apply _ _ _ _ (by
    rw [Shape.rowMajor_val_three, Shape.rowMajor_val_three]
    show (b.val * 512 + p.val / 512) * 512 + p.val % 512 = (b.val * 1 + 0) * 262144 + p.val
    omega)

/-- Where the blocks of grid point `t` lie: picture `t / 2`, half `t % 2`. -/
theorem index_eq : ∀ t : Fin cfg0.N,
    (win0_0.index t 0 = t.val / 2 ∧ win0_0.index t 1 = 0 ∧ win0_0.index t 2 = t.val % 2)
    ∧ (win0_1.index t 0 = t.val / 2 ∧ win0_1.index t 1 = 0 ∧ win0_1.index t 2 = t.val % 2)
    ∧ (win0_2.index t 0 = t.val / 2 ∧ win0_2.index t 1 = 0 ∧ win0_2.index t 2 = 0) :=
  (by decide +kernel : ∀ t : Fin grid0.N, _)

/-- The block of logits at point `t`, read at class `k` and lane `l`. -/
theorem iblk_logits (t : Fin cfg0.N) (b : Fin 8) (hb : t.val / 2 = b.val) (k : Fin 19) (l : Fin 131072) (p : Fin 262144)
    (hp : t.val % 2 * 131072 + l.val = p.val) :
    (iblk m c 0 t : Vec Ideal S1x19x131072 .f32) (ix3 0 k l) = Pixel.logit (X m c) b p k := by
  have hi := (index_eq t).1
  unfold iblk
  rw [View.read_apply]
  show (V m c main_v0 : Vec Ideal S8x19x262144 .f32) _ = _
  rw [V_logits, ← joined_logits]
  congr 1
  funext a
  apply Fin.ext
  match a with
  | ⟨0, _⟩ => show win0_0.index t 0 * 1 + 1 * 0 = b.val; rw [hi.1]; omega
  | ⟨1, _⟩ => show win0_0.index t 1 * 19 + 1 * k.val = k.val; rw [hi.2.1]; omega
  | ⟨2, _⟩ => show win0_0.index t 2 * 131072 + 1 * l.val = p.val; rw [hi.2.2]; omega

/-- The block of labels at point `t`, read at lane `l`. -/
theorem iblk_labels (t : Fin cfg0.N) (b : Fin 8) (hb : t.val / 2 = b.val) (l : Fin 131072) (p : Fin 262144)
    (hp : t.val % 2 * 131072 + l.val = p.val) :
    (iblk m c 1 t : Vec Ideal S1x1x131072 .i32) (ix3 0 0 l) = Pixel.label (Y m c) b p := by
  have hi := (index_eq t).2.1
  unfold iblk
  rw [View.read_apply]
  show (V m c main_v1 : Vec Ideal S8x1x262144 .i32) _ = _
  rw [V_labels, ← joined_labels]
  congr 1
  funext a
  apply Fin.ext
  match a with
  | ⟨0, _⟩ => show win0_1.index t 0 * 1 + 1 * 0 = b.val; rw [hi.1]; omega
  | ⟨1, _⟩ => show win0_1.index t 1 * 1 + 1 * 0 = 0; rw [hi.2.1]
  | ⟨2, _⟩ => show win0_1.index t 2 * 131072 + 1 * l.val = p.val; rw [hi.2.2]; omega

/-- The pixel at place `q` of half `h`. -/
def pixel (h : Fin 2) (q : Fin 131072) : Fin 262144 := ⟨131072 * h.val + q.val, by omega⟩

/-- The sum of the losses at point `t` is the sum over half `t % 2` of picture `t / 2`. -/
theorem blockSum_eq (t : Fin cfg0.N) (b : Fin 8) (hb : t.val / 2 = b.val) (h : Fin 2) (hh : t.val % 2 = h.val) :
    Block.blockSum (iblk m c 0 t) (iblk m c 1 t)
      = ∑ q : Fin 131072, Loss.kernelLoss (Pixel.logit (X m c) b (pixel h q)) (Pixel.label (Y m c) b (pixel h q)) := by
  rw [Pixel.sum_pieces (a := 16) (b := 8192) (by norm_num)]
  unfold Block.blockSum Block.tripSum
  refine Finset.sum_congr rfl fun n _ => Finset.sum_congr rfl fun l _ => ?_
  exact congrArg₂ Loss.kernelLoss
    (funext fun k => iblk_logits m c t b hb k _ (pixel h (Block.lane n l)) (by
      show t.val % 2 * 131072 + (Block.lane n l).val = 131072 * h.val + (Block.lane n l).val; omega))
    (iblk_labels m c t b hb _ (pixel h (Block.lane n l)) (by
      show t.val % 2 * 131072 + (Block.lane n l).val = 131072 * h.val + (Block.lane n l).val; omega))

/-- After a picture's second point the output block holds the picture's sum. -/
theorem outs_eq (t : Fin cfg0.N) (ht : t.val % 2 = 1) (b : Fin 8) (hb : t.val / 2 = b.val) (j : S1x1x1.Idx) :
    outsAt0 m c t.val t.isLt j = Pixel.batchSum (X m c) (Y m c) b := by
  have hlt : t.val - 1 < cfg0.N := Nat.lt_of_le_of_lt (Nat.sub_le _ _) t.isLt
  have e0 : outsAt0 m c (t.val - 1) hlt j
      = ∑ q : Fin 131072, Loss.kernelLoss (Pixel.logit (X m c) b (pixel 0 q)) (Pixel.label (Y m c) b (pixel 0 q)) := by
    refine (congrFun (outsAt0_A m c ⟨t.val - 1, hlt⟩ (by dsimp only; omega) (by dsimp only; omega)) j).trans ?_
    rw [Block.out_A]
    exact blockSum_eq m c _ b (by dsimp only; omega) 0 (by show (t.val - 1) % 2 = 0; omega)
  rw [outsAt0_B m c t (by omega) ht, Block.out_B, e0, blockSum_eq m c t b hb 1 ht]
  unfold Pixel.batchSum
  rw [Pixel.sum_pieces (a := 2) (b := 131072) (n := 262144) (by norm_num), Fin.sum_univ_two]
  rfl

/-- The array the region leaves: at each picture, the sum of its losses. -/
abbrev sums : Buf (Elt Ideal) ((c : Thread nD τ).loc main_v2) := fun i => Pixel.batchSum (X m c) (Y m c) (i 0)

/-- The sum depends on the picture's number alone. -/
theorem batchSum_congr (x : S8x19x512x512.Idx → EReal) (y : S8x512x512.Idx → BitVec 32) (b b' : Fin 8) (h : b.val = b'.val) :
    Pixel.batchSum x y b = Pixel.batchSum x y b' := by rw [Fin.ext h]

/-- What a picture's second point writes back is that picture's entry. -/
theorem flushed_eq (t : Fin cfg0.N) (hf : (cfg0.win 2).flush t = true) :
    (dats m 0 c).flushed 2 t = ((cfg0.win 2).blk t).view.read (Elt Ideal) (sums m c) := by
  have h1 : t.val % 2 = 1 := (flush0_2 t).mp hf
  have hN : t.val < 16 := lt_of_lt_of_eq t.isLt (show cfg0.N = 16 from N_0)
  show (cfg0.win 2).cut (grid0.coords t) ((dats m 0 c).after 2 t) = _
  rw [after0_2]
  funext j
  rw [View.read_apply]
  refine (outs_eq m c t h1 ⟨t.val / 2, by omega⟩ rfl j).trans ?_
  show _ = Pixel.batchSum (X m c) (Y m c) _
  refine batchSum_congr _ _ _ _ ?_
  show t.val / 2 = win0_2.index t 0 * 1 + 1 * (j 0).val
  have hj : (j 0).val < 1 := (j 0).isLt
  rw [(index_eq t).2.2.1]; omega

/-- Every entry is written back by its picture's second point, so the array ends holding the sums. -/
theorem final : (dats m 0 c).arrAt 2 cfg0.N = sums m c :=
  (dats m 0 c).arrAt_eq_of_cover 2 (sums m c) (flushed_eq m c) fun i => by
    have h0 : (i 0 : Nat) < 8 := (i 0).isLt
    have h1 : (i 1 : Nat) < 1 := (i 1).isLt
    have h2 : (i 2 : Nat) < 1 := (i 2).isLt
    have hN : cfg0.N = 16 := N_0
    let t : Fin cfg0.N := ⟨2 * (i 0 : Nat) + 1, by omega⟩
    have ht : t.val = 2 * (i 0 : Nat) + 1 := rfl
    refine ⟨t, (flush0_2 t).mpr (by omega), ?_⟩
    show i ∈ ((View.whole main_v2).slice (win0_2.rect t)).set
    rw [View.set_slice_whole, Rect.mem_set_unit]
    have hi := (index_eq t).2.2
    intro a
    match a with
    | ⟨0, _⟩ => show win0_2.index t 0 * 1 ≤ (i 0 : Nat) ∧ (i 0 : Nat) < win0_2.index t 0 * 1 + 1; rw [hi.1]; omega
    | ⟨1, _⟩ => show win0_2.index t 1 * 1 ≤ (i 1 : Nat) ∧ (i 1 : Nat) < win0_2.index t 1 * 1 + 1; rw [hi.2.1]; omega
    | ⟨2, _⟩ => show win0_2.index t 2 * 1 ≤ (i 2 : Nat) ∧ (i 2 : Nat) < win0_2.index t 2 * 1 + 1; rw [hi.2.2]; omega

/-- The kernel's result as the last lines compute it: the sum of the pictures' sums, divided by the number of pixels. -/
def mean : Buf (Elt Ideal) ((c : Thread nD τ).loc main_v4) :=
  Host.divf (Host.reduceAdd (F := Ideal) (sums m c : FVec Ideal S8x1x1 .f32) (constant S_ .f32 0x00000000#32) reducesTo_S8x1x1_S_d0_1_2 h_S_)
    (constant S_ .f32 0x4A000000#32)

/-- The lines after the region compute the mean from the array. -/
theorem tail_eq : Pipeline.afterTail₀ cfgs (dats m) 0 (V0 m) [hostOps1] c main_v4 = mean m c := by
  unfold Pipeline.afterTail₀
  show after hostOps1 _ (Proc.devRef .tc main_v4) = _
  unfold hostOps1
  after_results
  unfold mean
  have e := Pipeline.withArrays_arr spec0 (by decide) c (V0 m c) (fun w => (dats m 0 c).arrAt w cfg0.N) 2
  have e' := e.trans (final m c)
  exact congrArg (fun v : FVec Ideal S8x1x1 .f32 => Host.divf (Host.reduceAdd (F := Ideal) v (constant S_ .f32 0x00000000#32) reducesTo_S8x1x1_S_d0_1_2 h_S_)
    (constant S_ .f32 0x4A000000#32)) e'

/-- Every run of the kernel ends with the mean in its result and the arguments unchanged. -/
theorem run : θ_run defs (onTc (τ := τ) (main (F := Ideal))) ⟨m, fun _ => 0, ρ⟩ fun r => ∀ c : Dev nD,
      r.2.mem ((c : Thread nD τ).loc main_v4) = mean m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.Array

end
-- ==== Proof.LogSoftmax.lean ====
/- The reference's logarithms of the softmax, read at one class of one pixel. -/
module

public import proofs.«01_k».proof.Proof.Gen.ReferenceIdeal.Read
public import proofs.«01_k».proof.Proof.Pixel
public import Idealize.ShloMosaic.Lib.IdealHost

@[expose] public section

noncomputable section

namespace Cert.Proof.LogSoftmax

open Idealize.ShloMosaic Idealize.ShloMosaic.ValueIdx
open Cert.ReferenceIdeal Cert.ReferenceIdeal.Read Facts₀ Facts
open scoped BigOperators

variable (x : S8x19x512x512.Idx → EReal)

/-- The reference's flattened logits at class `k` of pixel `p`. -/
theorem flat_logits (b : Fin 8) (k : Fin 19) (p : Fin 262144) :
    val_main_v0 (F := Ideal) x (ix3 b k p) = Pixel.logit x b p k := by
  refine (val_main_v0_apply (F := Ideal) x (ix3 b k p)).trans (congrArg x (funext fun a => Fin.ext ?_))
  have hb := b.isLt; have hk := k.isLt; have hp := p.isLt
  match a with
  | ⟨0, _⟩ => show ((b.val * 19 + k.val) * 262144 + p.val) / 4980736 = b.val; omega
  | ⟨1, _⟩ => show ((b.val * 19 + k.val) * 262144 + p.val) / 262144 % 19 = k.val; omega
  | ⟨2, _⟩ => show ((b.val * 19 + k.val) * 262144 + p.val) / 512 % 512 = p.val / 512; omega
  | ⟨3, _⟩ => show ((b.val * 19 + k.val) * 262144 + p.val) % 512 = p.val % 512; omega

/-- The pattern of negative infinity is the least extended real. -/
theorem neg_inf_bits : Ideal.ofBits .f32 0xFF800000#32 = ⊥ := by
  simp [Ideal.ofBits, Ideal.ieee]

/-- The shift the reference subtracts from the logits of pixel `p`: their greatest, as it computes it. -/
def shift (b : Fin 8) (p : Fin 262144) : EReal := val_main_call0_v2 (F := Ideal) x (ix2 b p)

/-- On finite logits the shift is a real number. -/
theorem shift_real (hx : ∀ i, ∃ r : ℝ, x i = (r : EReal)) (b : Fin 8) (p : Fin 262144) : ∃ r : ℝ, shift x b p = (r : EReal) := by
  have h0 : ∀ i, ∃ r : ℝ, val_main_v0 (F := Ideal) x i = (r : EReal) := fun i => by
    rw [val_main_v0_apply]; exact hx _
  obtain ⟨r, hr⟩ : ∃ r : ℝ, val_main_call0_v0 (F := Ideal) x (ix2 b p) = (r : EReal) := by
    unfold val_main_call0_v0
    rw [Host.reduce_eq_foldl]
    refine Loss.foldl_max_real (val_main_v0 (F := Ideal) x) h0 _ _ (Or.inl ⟨?_, neg_inf_bits⟩)
    refine List.ne_nil_of_mem (a := ix3 b (0 : Fin 19) p) (List.mem_filter.2 ⟨List.mem_map.2 ⟨S8x19x262144.rowMajor (ix3 b (0 : Fin 19) p), List.mem_finRange _, Equiv.symm_apply_apply _ _⟩, decide_eq_true ?_⟩)
    funext a
    match a with
    | ⟨0, _⟩ => rfl
    | ⟨1, _⟩ => rfl
  refine ⟨r, ?_⟩
  unfold shift
  rw [val_main_call0_v2_apply, val_main_call0_v1_apply, val_main_call0_cst_0_apply, hr]
  show max (Ideal.ofBits .f32 0xFF800000#32) (r : EReal) = _
  rw [neg_inf_bits]
  exact max_eq_right bot_le

/-- The shifted logit of class `k` at pixel `p`. -/
theorem shifted (b : Fin 8) (k : Fin 19) (p : Fin 262144) :
    val_main_call0_v5 (F := Ideal) x (ix3 b k p) = Pixel.logit x b p k - shift x b p := by
  rw [val_main_call0_v5_apply, flat_logits, val_main_call0_v4_apply, val_main_call0_v3_apply]
  have e : idx_main_call0_v3 (idx_main_call0_v4 (ix3 b k p)) = ix2 b p := by
    funext a
    match a with
    | ⟨0, _⟩ => rfl
    | ⟨1, _⟩ => rfl
  rw [e]
  rfl

/-- The sum over the classes of the exponentials of the shifted logits at pixel `p`. -/
theorem sum_exp (b : Fin 8) (p : Fin 262144) :
    val_main_call0_v7 (F := Ideal) x (ix2 b p) = ∑ k : Fin 19, Ideal.exp (Pixel.logit x b p k - shift x b p) := by
  rw [val_main_call0_v7_apply, val_main_call0_cst_1_apply]
  refine (congrArg₂ (fun a b : EReal => a + b) Ideal.ofBits_zero_f32 (Finset.sum_congr rfl fun k _ => ?_)).trans (zero_add _)
  have e : idx_main_call0_v7 (ix2 b p) k = ix3 b k p := by
    funext a
    match a with
    | ⟨0, _⟩ => rfl
    | ⟨1, _⟩ => rfl
    | ⟨2, _⟩ => rfl
  rw [e, val_main_call0_v6_apply, shifted]
  rfl

/-- The reference's logarithm of the softmax at class `k` of pixel `p`. -/
theorem log_softmax (b : Fin 8) (k : Fin 19) (p : Fin 262144) :
    val_main_v2 (F := Ideal) x (ix3 b k p) = Loss.logProb (shift x b p) (Pixel.logit x b p) k := by
  rw [val_main_v2_apply, shifted, val_main_call0_v10_apply, val_main_call0_v9_apply, val_main_call0_v8_apply]
  have e : idx_main_call0_v8 (idx_main_call0_v10 (ix3 b k p)) = ix2 b p := by
    funext a
    match a with
    | ⟨0, _⟩ => rfl
    | ⟨1, _⟩ => rfl
  rw [e, sum_exp]
  rfl

end Cert.Proof.LogSoftmax

end
-- ==== Proof.Take.lean ====
/- The reference's choice of the label's class at a pixel, for a label that names a class. -/
module

public import proofs.«01_k».proof.Proof.LogSoftmax
public import Idealize.ShloMosaic.Lib.ReduceAll

@[expose] public section

noncomputable section

namespace Cert.Proof.Take

open Idealize.ShloMosaic Idealize.ShloMosaic.ValueIdx
open Cert.ReferenceIdeal Cert.ReferenceIdeal.Read Facts₀ Facts

/-- Facts about the words of the 19 classes: none is negative, each is at most 18, and each reads signed as its number. -/
theorem class_word : ∀ k : Fin 19, IntOp.cmpi .slt (BitVec.ofNat 32 k.val) 0#32 = 0#1 ∧ IntOp.cmpi .sge (BitVec.ofNat 32 k.val) 0#32 = 1#1
    ∧ IntOp.cmpi .sle (BitVec.ofNat 32 k.val) 18#32 = 1#1 ∧ min (BitVec.ofNat 32 k.val).toInt.toNat 18 = k.val := by
  decide

/-- The gather read at pixel `p` of picture `b`: the operand at the class the start index names, clamped to the classes. -/
theorem gather_apply {α : Type} [Facts] (x : S8x19x262144.Idx → α) (idx : IVec S8x1x262144x1 32) (b : Fin 8) (p : Fin 262144) :
    Host.gather gather_S8x19x262144_S8x1x262144x1_S8x1x262144_n_1_02_02_1_3_111 x idx (ix3 b (0 : Fin 1) p)
      = x (ix3 b (⟨min (idx (ix4 b (0 : Fin 1) p (0 : Fin 1))).toInt.toNat 18, by omega⟩ : Fin 19) p) := by
  unfold Host.gather
  refine congrArg x (funext fun a => Fin.ext ?_)
  show (gather_S8x19x262144_S8x1x262144x1_S8x1x262144_n_1_02_02_1_3_111).start (ix3 b (0 : Fin 1) p) idx a
      + (gather_S8x19x262144_S8x1x262144x1_S8x1x262144_n_1_02_02_1_3_111).batchCoord (ix3 b (0 : Fin 1) p) a
      + (gather_S8x19x262144_S8x1x262144x1_S8x1x262144_n_1_02_02_1_3_111).offCoord (ix3 b (0 : Fin 1) p) a = _
  have hc : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases hc with rfl | rfl | rfl
  · rw [GatherDims.start_batching _ _ _ _ (show (0 : Fin 3) ∈ ([0, 2] : List (Fin 3)) by decide),
      GatherDims.offCoord_eq_zero _ _ _ (fun h => ((GatherDims.mem_sKept _ _).mp h).2 (show (0 : Fin 3) ∈ ([0, 2] : List (Fin 3)) by decide))]
    simp only [Nat.zero_add, Nat.add_zero]
    unfold GatherDims.batchCoord
    rw [dif_pos (show (0 : Fin 3) ∈ gather_S8x19x262144_S8x1x262144x1_S8x1x262144_n_1_02_02_1_3_111.operandBatchingDims from (by decide : (0 : Fin 3) ∈ ([0, 2] : List (Fin 3))))]
    rfl
  · rw [GatherDims.batchCoord_eq_zero _ _ _ (show (1 : Fin 3) ∉ ([0, 2] : List (Fin 3)) by decide),
      GatherDims.offCoord_eq_zero _ _ _ (fun h => ((GatherDims.mem_sKept _ _).mp h).1 (show (1 : Fin 3) ∈ ([1] : List (Fin 3)) by decide))]
    simp only [Nat.add_zero]
    unfold GatherDims.start
    rw [dif_pos (show (1 : Fin 3) ∈ gather_S8x19x262144_S8x1x262144x1_S8x1x262144_n_1_02_02_1_3_111.startIndexMap from (by decide : (1 : Fin 3) ∈ ([1] : List (Fin 3))))]
    refine (congrArg (fun o => min (idx o).toInt.toNat 18) (funext fun q => Fin.ext ?_) :
      _ = min (idx (ix4 b (0 : Fin 1) p (0 : Fin 1))).toInt.toNat 18)
    match q with
    | ⟨0, _⟩ => rfl
    | ⟨1, _⟩ => rfl
    | ⟨2, _⟩ => rfl
    | ⟨3, _⟩ => rfl
  · rw [GatherDims.start_batching _ _ _ _ (show (2 : Fin 3) ∈ ([0, 2] : List (Fin 3)) by decide),
      GatherDims.offCoord_eq_zero _ _ _ (fun h => ((GatherDims.mem_sKept _ _).mp h).2 (show (2 : Fin 3) ∈ ([0, 2] : List (Fin 3)) by decide))]
    simp only [Nat.zero_add, Nat.add_zero]
    unfold GatherDims.batchCoord
    rw [dif_pos (show (2 : Fin 3) ∈ gather_S8x19x262144_S8x1x262144x1_S8x1x262144_n_1_02_02_1_3_111.operandBatchingDims from (by decide : (2 : Fin 3) ∈ ([0, 2] : List (Fin 3))))]
    rfl

variable (x : S8x19x512x512.Idx → EReal) (y : S8x512x512.Idx → BitVec 32)

/-- The reference's flattened labels at pixel `p`. -/
theorem flat_labels (b : Fin 8) (p : Fin 262144) : val_main_v3 (F := Ideal) y (ix3 b (0 : Fin 1) p) = Pixel.label y b p := by
  rw [val_main_v3_apply, val_main_v1_apply]
  refine congrArg y (funext fun a => Fin.ext ?_)
  have hb := b.isLt; have hp := p.isLt
  match a with
  | ⟨0, _⟩ => show (b.val * 262144 + p.val) / 262144 = b.val; omega
  | ⟨1, _⟩ => show (b.val * 262144 + p.val) / 512 % 512 = p.val / 512; omega
  | ⟨2, _⟩ => show (b.val * 262144 + p.val) % 512 = p.val % 512; omega

/-- The start index at pixel `p` is the label when it names a class. -/
theorem start_index (b : Fin 8) (p : Fin 262144) (k : Fin 19) (h : Pixel.label y b p = BitVec.ofNat 32 k.val) :
    val_main_call1_v5 (F := Ideal) y (ix4 b (0 : Fin 1) p (0 : Fin 1)) = BitVec.ofNat 32 k.val := by
  rw [val_main_call1_v5_apply]
  have e : idx_main_call1_v5 (ix4 b (0 : Fin 1) p (0 : Fin 1)) = ix3 b (0 : Fin 1) p := by
    have hb := b.isLt; have hp := p.isLt
    funext a
    refine Fin.ext ?_
    match a with
    | ⟨0, _⟩ => show (((b.val * 1 + 0) * 262144 + p.val) * 1 + 0) / 262144 = b.val; omega
    | ⟨1, _⟩ => rfl
    | ⟨2, _⟩ => show (((b.val * 1 + 0) * 262144 + p.val) * 1 + 0) % 262144 = p.val; omega
  rw [e, val_main_call1_v4_apply, val_main_call1_v1_apply, flat_labels, h, val_main_call1_v0_apply, val_main_call1_c_apply,
    (class_word k).1]
  rfl

/-- The reference's test that the start index names a class succeeds everywhere when every label names a class. -/
theorem in_range (hy : ∀ i, ∃ k : Fin 19, y i = BitVec.ofNat 32 k.val) (j : S8x1x262144.Idx) :
    val_main_call1_v12 (F := Ideal) y j = 1#1 := by
  unfold val_main_call1_v12
  refine Host.reduce_andi_one _ _ _ _ _ rfl fun i => ?_
  obtain ⟨b, z, p, w, rfl⟩ : ∃ (b : Fin 8) (z : Fin 1) (p : Fin 262144) (w : Fin 1), i = ix4 b z p w :=
    ⟨i 0, i 1, i 2, i 3, by
      funext a
      match a with
      | ⟨0, _⟩ => rfl
      | ⟨1, _⟩ => rfl
      | ⟨2, _⟩ => rfl
      | ⟨3, _⟩ => rfl⟩
  obtain rfl : z = 0 := Subsingleton.elim _ _
  obtain rfl : w = 0 := Subsingleton.elim _ _
  obtain ⟨k, hk⟩ := hy (ix3 b (Pixel.row p) (Pixel.col p))
  rw [val_main_call1_v11_apply, val_main_call1_v7_apply, val_main_call1_v10_apply, start_index y b p k hk,
    val_main_call1_v6_apply, val_main_call1_c_2_apply, val_main_call1_v9_apply, val_main_call1_v8_apply, val_main_call1_c_1_apply,
    (class_word k).2.1, (class_word k).2.2.1]
  rfl

/-- The loss the reference computes at pixel `p` when every label names a class and this pixel's names `k`. -/
theorem loss (hy : ∀ i, ∃ k : Fin 19, y i = BitVec.ofNat 32 k.val) (b : Fin 8) (p : Fin 262144) (k : Fin 19)
    (h : Pixel.label y b p = BitVec.ofNat 32 k.val) :
    val_main_v6 (F := Ideal) x y (ix2 b p) = -Loss.logProb (LogSoftmax.shift x b p) (Pixel.logit x b p) k := by
  rw [val_main_v6_apply, val_main_v5_apply]
  have e : idx_main_v5 (ix2 b p) = ix3 b (0 : Fin 1) p := by
    have hb := b.isLt; have hp := p.isLt
    funext a
    refine Fin.ext ?_
    match a with
    | ⟨0, _⟩ => show (b.val * 262144 + p.val) / 262144 = b.val; omega
    | ⟨1, _⟩ => rfl
    | ⟨2, _⟩ => show (b.val * 262144 + p.val) % 262144 = p.val; omega
  rw [e, val_main_v4_apply, in_range y hy]
  unfold val_main_call1_v13
  rw [gather_apply]
  refine congrArg (fun z : EReal => -z) ?_
  refine Eq.trans (congrArg (fun q : Fin 19 => val_main_v2 (F := Ideal) x (ix3 b q p)) (Fin.ext ?_)) (LogSoftmax.log_softmax x b k p)
  show min (val_main_call1_v5 (F := Ideal) y (ix4 b (0 : Fin 1) p (0 : Fin 1))).toInt.toNat 18 = k.val
  rw [start_index y b p k h]
  exact (class_word k).2.2.2

end Cert.Proof.Take

end
-- ==== Proof.Mean.lean ====
/- The two means over all pixels: the kernel's, of the pictures' sums divided once by the number of pixels, and the
   reference's, the mean over the pictures of each picture's mean. On real losses both are the same real number. -/
module

public import proofs.«01_k».proof.Proof.Array
public import proofs.«01_k».proof.Proof.Take
public import Idealize.ShloMosaic.Lib.Pointwise.Index

@[expose] public section

noncomputable section

namespace Cert.Proof.Mean

open Idealize.ShloMosaic hiding ix0 ix1 ix2 ix3 ix4 sum_idx2
open Idealize.ShloMosaic.ValueIdx Idealize.ShloMosaic.TcCoe
open scoped BigOperators

/-- The sum of the real losses `L` over the pixels of picture `b`. -/
@[irreducible] def pictureSum (L : Fin 8 → Fin 262144 → ℝ) (b : Fin 8) : ℝ := ∑ p, L b p

/-- The mean of the real losses `L` over all pixels of all pictures. -/
def realMean (L : Fin 8 → Fin 262144 → ℝ) : ℝ := (∑ b, pictureSum L b) / 2097152

/-- The pattern of the number of pixels in all pictures. -/
theorem all_pixels_bits : Ideal.ofBits .f32 0x4A000000#32 = ((2097152 : ℝ) : EReal) := by
  simp [Ideal.ofBits, Ideal.ieee, -EReal.coe_mul]; norm_num

/-- The pattern of the number of pixels in one picture. -/
theorem pixels_bits : Ideal.ofBits .f32 0x48800000#32 = ((262144 : ℝ) : EReal) := by
  simp [Ideal.ofBits, Ideal.ieee, -EReal.coe_mul]; norm_num

/-- The pattern of the number of pictures. -/
theorem pictures_bits : Ideal.ofBits .f32 0x41000000#32 = ((8 : ℝ) : EReal) := by
  simp [Ideal.ofBits, Ideal.ieee, -EReal.coe_mul]; norm_num

/-- A real number divided by a real number that is not zero. -/
theorem div_real (r s : ℝ) (h : s ≠ 0) : Ideal.div (r : EReal) (s : EReal) = ((r / s : ℝ) : EReal) := by
  rw [Ideal.div_coe h, ← EReal.coe_mul]
  exact congrArg _ (by ring)

section Kernel

open Cert.KernelIdeal Cert.KernelIdeal.Gen

variable (m : (ℓ : Loc nD τ sig) → Buf (Elt Ideal) ℓ) (c : Dev nD) (L : Fin 8 → Fin 262144 → ℝ)

/-- The kernel's sum over a picture is the sum of its real losses. -/
theorem batchSum_real (x : S8x19x512x512.Idx → EReal) (y : S8x512x512.Idx → BitVec 32)
    (hL : ∀ b p, Loss.kernelLoss (Pixel.logit x b p) (Pixel.label y b p) = (L b p : EReal)) (b : Fin 8) :
    Pixel.batchSum x y b = (pictureSum L b : EReal) := by
  unfold Pixel.batchSum pictureSum
  exact (Finset.sum_congr rfl fun p _ => hL b p).trans (Loss.coe_sum _ _).symm

/-- The kernel's result is the mean of the real losses. -/
theorem kernel_mean
    (hL : ∀ b p, Loss.kernelLoss (Pixel.logit (Array.X m c) b p) (Pixel.label (Array.Y m c) b p) = (L b p : EReal)) (j : S_.Idx) :
    (Array.mean m c : S_.Idx → EReal) j = (realMean L : EReal) := by
  have hs : Ideal.hostReduceAdd reducesTo_S8x1x1_S_d0_1_2 (Array.sums m c : S8x1x1.Idx → EReal) (Ideal.ofBits .f32 0x00000000#32) j
      = ((∑ b, pictureSum L b : ℝ) : EReal) := by
    refine (Ideal.hostReduceAdd_total _ (fun b => b.elim0) _ _ _).trans ?_
    rw [Ideal.ofBits_zero_f32, zero_add]
    refine (Idealize.ShloMosaic.sum_idx3 _).trans ?_
    rw [Loss.coe_sum]
    refine Finset.sum_congr rfl fun b _ => ?_
    rw [Fin.sum_univ_one, Fin.sum_univ_one]
    exact batchSum_real L _ _ hL b
  show Ideal.div (Ideal.hostReduceAdd reducesTo_S8x1x1_S_d0_1_2 (Array.sums m c : S8x1x1.Idx → EReal) (Ideal.ofBits .f32 0x00000000#32) j)
    (Ideal.ofBits .f32 0x4A000000#32) = _
  rw [hs, all_pixels_bits, div_real _ _ (by norm_num)]
  rfl

end Kernel

section Reference

open Cert.ReferenceIdeal Cert.ReferenceIdeal.Read

variable (x : S8x19x512x512.Idx → EReal) (y : S8x512x512.Idx → BitVec 32) (L : Fin 8 → Fin 262144 → ℝ)

/-- The reference's mean over a picture is the mean of its real losses. -/
theorem picture_mean (hL : ∀ b p, val_main_v6 (F := Ideal) x y (ix2 b p) = (L b p : EReal)) (b : Fin 8) :
    val_main_v9 (F := Ideal) x y (ix1 b) = ((pictureSum L b / 262144 : ℝ) : EReal) := by
  have hs : val_main_v7 (F := Ideal) x y (ix1 b) = (pictureSum L b : EReal) := by
    rw [val_main_v7_apply, val_main_cst_apply]
    refine (congrArg₂ (fun a b : EReal => a + b) Ideal.ofBits_zero_f32 (Finset.sum_congr rfl fun p _ => ?_)).trans
      ((zero_add (∑ p, (L b p : EReal))).trans ?_)
    · have e : idx_main_v7 (ix1 b) p = ix2 b p := by
        funext a
        match a with
        | ⟨0, _⟩ => rfl
        | ⟨1, _⟩ => rfl
      rw [e]
      exact hL b p
    · unfold pictureSum
      exact (Loss.coe_sum _ _).symm
  rw [val_main_v9_apply, hs, val_main_v8_apply, val_main_cst_0_apply]
  show Ideal.div (pictureSum L b : EReal) (Ideal.ofBits .f32 0x48800000#32) = _
  rw [pixels_bits, div_real _ _ (by norm_num)]

/-- The reference's result is the mean of the real losses. -/
theorem reference_mean (hL : ∀ b p, val_main_v6 (F := Ideal) x y (ix2 b p) = (L b p : EReal)) (j : S_.Idx) :
    val_main_v11 (F := Ideal) x y j = (realMean L : EReal) := by
  have hs : val_main_v10 (F := Ideal) x y j = ((∑ b, pictureSum L b / 262144 : ℝ) : EReal) := by
    rw [val_main_v10_apply, val_main_cst_1_apply]
    refine (congrArg₂ (fun a b : EReal => a + b) Ideal.ofBits_zero_f32 (Idealize.ShloMosaic.sum_idx1 _)).trans ((zero_add _).trans ?_)
    rw [Loss.coe_sum]
    exact Finset.sum_congr rfl fun b _ => picture_mean x y L hL b
  rw [val_main_v11_apply, hs, val_main_cst_2_apply]
  show Ideal.div _ (Ideal.ofBits .f32 0x41000000#32) = _
  rw [pictures_bits, div_real _ _ (by norm_num)]
  unfold realMean
  rw [← Finset.sum_div, div_div]
  norm_num

end Reference

end Cert.Proof.Mean

end
-- ==== Proof.Equation.lean ====
/- The kernel's result equals the reference's when every logit is a real number and every label names a class. -/
module

public import proofs.«01_k».proof.Proof.Mean

@[expose] public section

noncomputable section

namespace Cert.Proof.Equation

open Idealize.ShloMosaic hiding ix0 ix1 ix2 ix3 ix4 sum_idx2
open Idealize.ShloMosaic.ValueIdx Idealize.ShloMosaic.TcCoe
open Cert.KernelIdeal

variable (m : (ℓ : Loc nD τ sig) → Buf (Elt Ideal) ℓ) (c : Dev nD)

/-- On finite logits and labels that name classes, the kernel's result is the reference's. -/
theorem mean_eq (hx : ∀ i, ∃ r : ℝ, Array.X m c i = (r : EReal)) (hy : ∀ i, ∃ k : Fin 19, Array.Y m c i = BitVec.ofNat 32 k.val) :
    (Array.mean m c : S_.Idx → EReal) = Cert.ReferenceIdeal.Read.val_main_v11 (F := Ideal) (Array.X m c) (Array.Y m c) := by
  have hx' := hx
  have hy' := hy
  choose r hr using hx
  choose k hk using hy
  have hlogit : ∀ (b : Fin 8) (p : Fin 262144),
      Pixel.logit (Array.X m c) b p = fun j => (r (ix4 b j (Pixel.row p) (Pixel.col p)) : EReal) := fun b p => funext fun j => hr _
  have hlabel : ∀ (b : Fin 8) (p : Fin 262144),
      Pixel.label (Array.Y m c) b p = BitVec.ofNat 32 (k (ix3 b (Pixel.row p) (Pixel.col p))).val := fun b p => hk _
  let L : Fin 8 → Fin 262144 → ℝ := fun b p =>
    Loss.realLoss (fun j => r (ix4 b j (Pixel.row p) (Pixel.col p))) (k (ix3 b (Pixel.row p) (Pixel.col p)))
  funext j
  refine (Mean.kernel_mean m c L (fun b p => ?_) j).trans (Mean.reference_mean _ _ L (fun b p => ?_) j).symm
  · rw [hlogit, hlabel]
    exact Loss.kernelLoss_real _ _
  · obtain ⟨μ, hμ⟩ := LogSoftmax.shift_real (Array.X m c) hx' b p
    rw [Take.loss (Array.X m c) (Array.Y m c) hy' b p _ (hlabel b p), hμ, hlogit]
    exact Loss.neg_logProb_real _ _ _

end Cert.Proof.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Precondition
public import proofs.«01_k».proof.Proof.Equation

@[expose] public section

noncomputable section

namespace Cert.Proof

open Idealize.ShloMosaic Idealize.SL.Sem

/-- Every run of the reference ends with its arguments unchanged and every semaphore at zero. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On finite logits and labels that name classes the kernel and the reference end with equal results. -/
theorem equal_results : Cert.algebraic_KernelIdeal_ReferenceIdeal_pre_finite_logits_and_labels_in_range
    (hKernelIdeal := Cert.KernelIdeal.Gen.facts) (hReferenceIdeal := Cert.ReferenceIdeal.Gen.facts)
    (hPre_finite_logits_and_labels_in_range := Precondition.facts) := fun m ρ m' ρ' hpre hargs =>
  ⟨fun c => Array.mean m c, Array.run m ρ,
    (θ_run Cert.ReferenceIdeal.defs _ _).mono (fun r h c => ⟨(h c).1.trans (by
        rw [Cert.ReferenceIdeal.Read.val_main_v11_eq m' c, (hargs c).1, (hargs c).2]
        exact (Equation.mean_eq m c (Precondition.logits _ _ (hpre c)) (Precondition.labels _ _ (hpre c))).symm), (h c).2⟩)
      (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts, Precondition.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  trivial,
  equal_results⟩

end Cert.Proof

end
